-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v1) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S2x8192 : Shape := ⟨2, ![2, 8192]⟩
abbrev S8192x1024 : Shape := ⟨2, ![8192, 1024]⟩
abbrev S1024x1024 : Shape := ⟨2, ![1024, 1024]⟩
abbrev S4 : Shape := ⟨1, ![4]⟩
abbrev S1 : Shape := ⟨1, ![1]⟩
abbrev S_ : Shape := ⟨0, ![]⟩
abbrev S256x1024 : Shape := ⟨2, ![256, 1024]⟩

abbrev nBuf : Table → Nat
  | .hbm => 3
  | .shared => 1
  | _ => 0

abbrev bufTy : (tb : Table) → Fin (nBuf tb) → BufTy
  | .hbm, ⟨0, _⟩ => ⟨S2x8192, .f32⟩
  | .hbm, ⟨1, _⟩ => ⟨S8192x1024, .f32⟩
  | .hbm, ⟨2, _⟩ => ⟨S8192x1024, .f32⟩
  | .shared, ⟨0, _⟩ => ⟨S1024x1024, .f32⟩
  | _, _ => ⟨S2x8192, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg1_scs : Ref sig .scScalar := ⟨.hbm, 1, rfl⟩
abbrev main_v0_scs : Ref sig .scScalar := ⟨.hbm, 2, rfl⟩
abbrev cc0_scratch0 : Ref sig .scScalar := ⟨.shared, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![2], ![false]⟩

def k0_off1 (i : grid0.Coords) (c0_i32 : BitVec 32) : Fin 2 → Nat :=
  let arg0 : BitVec 32 := BitVec.ofNat 32 (i 0).val
  let c4096_i32 : BitVec 32 := 4096#32
  let v0 : BitVec 32 := Scalar.muli arg0 c4096_i32
  let v1 : BitVec 32 := Scalar.addi v0 c0_i32
  let c0_i32_3 : BitVec 32 := 0#32
  ![v1.toNat, 0]
abbrev scKind : Fin 1 → Kind := fun | 0 => .scScalar | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== Reference.lean ====
abbrev S2x8192 : Shape := ⟨2, ![2, 8192]⟩
abbrev S8192x1024 : Shape := ⟨2, ![8192, 1024]⟩
abbrev S8192 : Shape := ⟨1, ![8192]⟩
abbrev S_ : Shape := ⟨0, ![]⟩
abbrev S8192x1 : Shape := ⟨2, ![8192, 1]⟩
abbrev S1 : Shape := ⟨1, ![1]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S2x8192, .f32⟩
  | .hbm, ⟨1, _⟩ => ⟨S8192x1024, .f32⟩
  | .hbm, ⟨2, _⟩ => ⟨S8192, .i32⟩
  | .hbm, ⟨3, _⟩ => ⟨S_, .i32⟩
  | .hbm, ⟨4, _⟩ => ⟨S8192, .i32⟩
  | .hbm, ⟨5, _⟩ => ⟨S8192, .i1⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S8192, .i32⟩
  | .hbm, ⟨10, _⟩ => ⟨S8192x1, .i32⟩
  | .hbm, ⟨11, _⟩ => ⟨S1, .i32⟩
  | .hbm, ⟨12, _⟩ => ⟨S_, .i32⟩
  | .hbm, ⟨13, _⟩ => ⟨S8192x1, .i32⟩
  | .hbm, ⟨14, _⟩ => ⟨S8192x1, .i1⟩
  | .hbm, ⟨15, _⟩ => ⟨S1x1, .i32⟩
  | .hbm, ⟨16, _⟩ => ⟨S8192x1, .i32⟩
  | .hbm, ⟨17, _⟩ => ⟨S8192x1, .i1⟩
  | .hbm, ⟨18, _⟩ => ⟨S8192x1, .i1⟩
  | .hbm, ⟨19, _⟩ => ⟨S_, .i1⟩
  | .hbm, ⟨20, _⟩ => ⟨S8192, .i1⟩
  | .hbm, ⟨21, _⟩ => ⟨S8192x1024, .f32⟩
  | .hbm, ⟨22, _⟩ => ⟨S8192x1024, .i1⟩
  | .hbm, ⟨23, _⟩ => ⟨S_, .f32⟩
  | .hbm, ⟨24, _⟩ => ⟨S8192x1024, .f32⟩
  | .hbm, ⟨25, _⟩ => ⟨S8192x1024, .f32⟩
  | _, _ => ⟨S2x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩

abbrev nD : Nat := 1
abbrev τ : Topo := Topo.v7x

variable {F : FTy → Type} [FloatOps F]
-- ==== Proof.Common.lean ====
/-
  The SparseCore program as the launch theorem sees it, and its arrays.

  The table `w` (8192 rows of 1024 floats) is copied to the result by the scalar subcores of two SparseCores:
  SparseCore `c` copies rows `[4096 c, 4096 c + 4096)`, in sixteen chunks of 256 rows. Here: the program's
  configuration, the ghost state, the arrays' places, and what one SparseCore is handed at the call and hands back.
-/
module

public import proofs.«01_k».proof.KernelIdeal
public import proofs.«01_k».proof.Proof.Gen.KernelIdeal
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.Ring

@[expose] public section

noncomputable section

namespace Cert.Proof.Copy

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program's configuration -/

/-- The labels of the program's kernels. -/
abbrev ΛP : Labels := Pipeline.Sig Λ₀ (Fin 0) fun p => (pcfgs (F := F) p).Adm
/-- Its one SparseCore call. -/
abbrev K : SparseCore.Cfg τ sig (ΛP (F := F)) 1 := sc (F := F)
/-- Its kernels' bodies. -/
abbrev D [FloatOps F] : Defs nD τ sig (Elt F) (ΛP (F := F)) := Pipeline.defs pcfgs defs₀
/-- The bodies have no loop that needs a measure. -/
abbrev 𝒱₀ : Variants := Variants.none
/-- The same for the launched program. -/
abbrev 𝒱 : Variants := 𝒱₀.lift
/-- The measure at the start. -/
abbrev v₀ : 𝒱.V := Sum.inl none

/-- The launch's semaphores are apart and not scoped, and no buffer of a SparseCore is reassigned per task. -/
theorem facts : (K (F := F)).Facts :=
  ⟨show sc_start ≠ sc_taskDone by decide,
    show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-- The ghost state of the handshakes: their rounds. -/
abbrev UH : Type := URounds (GSem nD τ sig) ℕ
/-- The whole ghost state: the rounds, and the counters of the transfers in flight. -/
abbrev UU : Type := UH × Counters

local notation "𝕄" => MT nD τ sig (HIx 1) (Elt F) ℕ UU ℕ

/-- The rounds' place in the ghost state. -/
abbrev EH : Emb UH (MT nD τ sig (HIx 1) (Elt F) ℕ UU ℕ) := embL

/-! ## The arrays -/

/-- The argument that is not read. -/
abbrev xLoc (d : Dev nD) : Loc nD τ sig := (SparseCore.T d).loc main_arg0
/-- The table. -/
abbrev wLoc (d : Dev nD) : Loc nD τ sig := (SparseCore.T d).loc main_arg1
/-- The result. -/
abbrev oLoc (d : Dev nD) : Loc nD τ sig := (SparseCore.T d).loc main_v0
/-- SparseCore `c`'s shared memory: the four slots of 256 rows. -/
abbrev sLoc (d : Dev nD) (c : Fin τ.nSC) : Loc nD τ sig := (S d c).loc cc0_scratch0

/-- The body's coordinates on SparseCore `c`. -/
def coords (c : Fin (grid0.bound 0)) : grid0.Coords :=
  fun | 0 => c | ⟨_ + 1, h⟩ => absurd h (Nat.not_lt.2 (Nat.le_add_left _ _))

/-- The scalar subcore that runs the body at coordinates `i`. -/
abbrev seq (d : Dev nD) (i : grid0.Coords) : Thread nD τ := S d ((i 0).castLE hcore0)

/-- The rows of chunk `k` of the SparseCore at coordinates `i`, as a rectangle of the table or of the result. -/
abbrev chunk (i : grid0.Coords) (k : Fin 16) : Finset S8192x1024.Idx :=
  (Rect.unit (s := S8192x1024) (k0_off1 i (BitVec.ofNat 32 (256 * k.val))) S256x1024.size (k0_off1_inb i k)).set

/-- Slot `b` lies in the shared memory. -/
theorem slot_inb (b : Fin 4) : ∀ a, (![256 * b.val, 0] : Fin 2 → Nat) a + S256x1024.size a ≤ S1024x1024.size a := by
  revert b; decide
/-- The rows of slot `b` of the shared memory. -/
abbrev slot (b : Fin 4) : Finset S1024x1024.Idx :=
  (Rect.unit (s := S1024x1024) ![256 * b.val, 0] S256x1024.size (slot_inb b)).set

end Cert.Proof.Copy

end
-- ==== Proof.Body.lean ====
/-
  One scalar subcore's run of the body.

  Chunk by chunk, 256 rows of the table land in one of the four slots of the shared memory and leave it for the result.
  Held are the sixteen chunks of the table and of the result, the four slots and the eight DMA semaphores at zero; at the
  end the result's chunks hold the table's rows, the table is as it was, and the semaphores are at zero again.
-/
module

public import proofs.«01_k».proof.Proof.Common
public import proofs.«01_k».proof.Proof.Gen.KernelIdeal.Skeleton

@[expose] public section

noncomputable section

namespace Cert.Proof.Copy

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type}

local notation "𝕄" => MT nD τ sig (HIx 1) (Elt F) ℕ UU ℕ

/-- Chunk `r / 256` of the table, as the body slices it. -/
abbrev wM (i : grid0.Coords) (r : BitVec 32) (h : ∀ a, k0_off1 i r a + S256x1024.size a ≤ S8192x1024.size a) :
    Memref sig .scScalar .hbm S256x1024 .f32 :=
  (Memref.whole main_arg1_scs : Memref sig .scScalar .hbm S8192x1024 .f32).slice (Rect.unit (s := S8192x1024) (k0_off1 i r) S256x1024.size h) (fun _ => rfl)
/-- The same chunk of the result. -/
abbrev oM (i : grid0.Coords) (r : BitVec 32) (h : ∀ a, k0_off1 i r a + S256x1024.size a ≤ S8192x1024.size a) :
    Memref sig .scScalar .hbm S256x1024 .f32 :=
  (Memref.whole main_v0_scs : Memref sig .scScalar .hbm S8192x1024 .f32).slice (Rect.unit (s := S8192x1024) (k0_off1 i r) S256x1024.size h) (fun _ => rfl)
/-- The slot at row `r` of the shared memory, as the body slices it. -/
abbrev sM (r : Nat) (h : ∀ a, (![r, 0] : Fin 2 → Nat) a + S256x1024.size a ≤ S1024x1024.size a) : Memref sig .scScalar .shared S256x1024 .f32 :=
  (Memref.whole cc0_scratch0 : Memref sig .scScalar .shared S1024x1024 .f32).slice (Rect.unit (s := S1024x1024) ![r, 0] S256x1024.size h) (fun _ => rfl)

variable (d : Dev nD) (i : grid0.Coords)

/-- A chunk of the table, held by its own elements at `f`. -/
abbrev wP (r : BitVec 32) (h : ∀ a, k0_off1 i r a + S256x1024.size a ≤ S8192x1024.size a) (f : Buf (Elt F) (wLoc d)) : sProp 𝕄 :=
  (wM i r h).view.loc (seq d i) ↦[(wM i r h).view.set]{fullShare} f
/-- A chunk of the result, held by its own elements at `f`. -/
abbrev oP (r : BitVec 32) (h : ∀ a, k0_off1 i r a + S256x1024.size a ≤ S8192x1024.size a) (f : Buf (Elt F) (oLoc d)) : sProp 𝕄 :=
  (oM i r h).view.loc (seq d i) ↦[(oM i r h).view.set]{fullShare} f
/-- A slot of the shared memory, held by its own elements at `f`. -/
abbrev sP (r : Nat) (h : ∀ a, (![r, 0] : Fin 2 → Nat) a + S256x1024.size a ≤ S1024x1024.size a) (f : Buf (Elt F) (sLoc d ((i 0).castLE hcore0))) : sProp 𝕄 :=
  (sM r h).view.loc (seq d i) ↦[(sM r h).view.set]{fullShare} f

/-- DMA semaphore `k` of the pool. -/
abbrev csem (k : Nat) (hk : k < 8 := by decide) : DmaSem sig := ⟨k, hk⟩
/-- The body's eight DMA semaphores, each at zero. -/
abbrev cells0 : sProp 𝕄 :=
  iprop(semVal (seq d i, SemLoc.dma (csem 0)) 0 ∗ semVal (seq d i, SemLoc.dma (csem 1)) 0
    ∗ semVal (seq d i, SemLoc.dma (csem 2)) 0 ∗ semVal (seq d i, SemLoc.dma (csem 3)) 0
    ∗ semVal (seq d i, SemLoc.dma (csem 4)) 0 ∗ semVal (seq d i, SemLoc.dma (csem 5)) 0
    ∗ semVal (seq d i, SemLoc.dma (csem 6)) 0 ∗ semVal (seq d i, SemLoc.dma (csem 7)) 0)

/-- The table's sixteen chunks. -/
abbrev wAll (f : Buf (Elt F) (wLoc d)) : sProp 𝕄 :=
  iprop(wP d i 0#32 (k0_off1_inb i 0) f ∗ wP d i 256#32 (k0_off1_inb i 1) f ∗ wP d i 512#32 (k0_off1_inb i 2) f ∗ wP d i 768#32 (k0_off1_inb i 3) f
    ∗ wP d i 1024#32 (k0_off1_inb i 4) f ∗ wP d i 1280#32 (k0_off1_inb i 5) f ∗ wP d i 1536#32 (k0_off1_inb i 6) f ∗ wP d i 1792#32 (k0_off1_inb i 7) f
    ∗ wP d i 2048#32 (k0_off1_inb i 8) f ∗ wP d i 2304#32 (k0_off1_inb i 9) f ∗ wP d i 2560#32 (k0_off1_inb i 10) f ∗ wP d i 2816#32 (k0_off1_inb i 11) f
    ∗ wP d i 3072#32 (k0_off1_inb i 12) f ∗ wP d i 3328#32 (k0_off1_inb i 13) f ∗ wP d i 3584#32 (k0_off1_inb i 14) f ∗ wP d i 3840#32 (k0_off1_inb i 15) f)
/-- The result's sixteen chunks. -/
abbrev oAll (f : Buf (Elt F) (oLoc d)) : sProp 𝕄 :=
  iprop(oP d i 0#32 (k0_off1_inb i 0) f ∗ oP d i 256#32 (k0_off1_inb i 1) f ∗ oP d i 512#32 (k0_off1_inb i 2) f ∗ oP d i 768#32 (k0_off1_inb i 3) f
    ∗ oP d i 1024#32 (k0_off1_inb i 4) f ∗ oP d i 1280#32 (k0_off1_inb i 5) f ∗ oP d i 1536#32 (k0_off1_inb i 6) f ∗ oP d i 1792#32 (k0_off1_inb i 7) f
    ∗ oP d i 2048#32 (k0_off1_inb i 8) f ∗ oP d i 2304#32 (k0_off1_inb i 9) f ∗ oP d i 2560#32 (k0_off1_inb i 10) f ∗ oP d i 2816#32 (k0_off1_inb i 11) f
    ∗ oP d i 3072#32 (k0_off1_inb i 12) f ∗ oP d i 3328#32 (k0_off1_inb i 13) f ∗ oP d i 3584#32 (k0_off1_inb i 14) f ∗ oP d i 3840#32 (k0_off1_inb i 15) f)

/-- A slot's contents read back are the last chunk that landed in it. -/
theorem slot_read (r : Nat) (h : ∀ a, (![r, 0] : Fin 2 → Nat) a + S256x1024.size a ≤ S1024x1024.size a)
    (f : Buf (Elt F) (sLoc d ((i 0).castLE hcore0))) (x : S256x1024.Idx → Elt F .f32) (L : List (View.Piece (Elt F) S256x1024 .f32)) :
    (sM r h).view.read (Elt F) ((sM r h).view.writes (Elt F) f (⟨Rect.whole S256x1024, x⟩ :: L)) = x :=
  funext fun y => by
    have e := View.read_writes_cons_emb (sM r h).view f (Rect.whole S256x1024) x L y
    rwa [Rect.emb_whole_apply] at e

/-- The result's chunk, once the table's rows of that chunk are written to it, holds the table there. -/
theorem out_written (r : BitVec 32) (h : ∀ a, k0_off1 i r a + S256x1024.size a ≤ S8192x1024.size a)
    (g : Buf (Elt F) (oLoc d)) (w : Buf (Elt F) (wLoc d)) (x : S256x1024.Idx → Elt F .f32)
    (hx : x = (wM i r h).view.read (Elt F) w) :
    oP d i r h ((oM i r h).view.writes (Elt F) g [⟨Rect.whole S256x1024, x⟩]) ⊢ oP d i r h w := by
  refine Entails.of_eq (pointsTo_congr fun j hj => ?_)
  obtain ⟨y, -, rfl⟩ := Finset.mem_map.mp hj
  subst hx
  have e := View.read_writes_cons_emb (oM i r h).view g (Rect.whole S256x1024) ((wM i r h).view.read (Elt F) w) [] y
  rw [Rect.emb_whole_apply, View.read_apply, View.read_apply, cast_eq, cast_eq] at e
  exact e

/-- The body's run: from the table's chunks at `w`, the result's at anything and the semaphores at zero, to the result's chunks
    at the table's rows, the table unchanged and the semaphores at zero. -/
theorem ring_run [FloatOps F] (O : CellTallies nD τ sig (HIx 1)) (W : Waits sig (HIx 1))
    (w : Buf (Elt F) (wLoc d)) (g : Buf (Elt F) (oLoc d)) (s : Buf (Elt F) (sLoc d ((i 0).castLE hcore0))) :
    (iprop(Transfers.MayWaits (seq d i) (none : HIx 1) O
        ∗ wAll d i w ∗ oAll d i g
        ∗ (sP d i 0 inb_S1024x1024_S256x1024_0_0 s ∗ sP d i 256 inb_S1024x1024_S256x1024_256_0 s
          ∗ sP d i 512 inb_S1024x1024_S256x1024_512_0 s ∗ sP d i 768 inb_S1024x1024_S256x1024_768_0 s)
        ∗ cells0 d i ∗ owes (seq d i) O W) : sProp 𝕄)
      ⊢ wp frame (wpE (defs₀ (F := F)) 𝒱₀ (seq d i) none) Set.univ
          (cc0_body i (Memref.whole main_arg1_scs) (Memref.isWhole_whole _) (Memref.whole main_v0_scs) (Memref.isWhole_whole _)
            (Memref.whole cc0_scratch0) (Memref.isWhole_whole _) cc0_scratch1 cc0_scratch2)
          fun _ => iprop(wAll d i w ∗ oAll d i w
            ∗ ((∃ f, sP d i 0 inb_S1024x1024_S256x1024_0_0 f) ∗ (∃ f, sP d i 256 inb_S1024x1024_S256x1024_256_0 f)
              ∗ (∃ f, sP d i 512 inb_S1024x1024_S256x1024_512_0 f) ∗ (∃ f, sP d i 768 inb_S1024x1024_S256x1024_768_0 f))
            ∗ cells0 d i ∗ ∃ W', owes (seq d i) O W') := by
  iintro ⟨#Hmw, ⟨Hw0, Hw1, Hw2, Hw3, Hw4, Hw5, Hw6, Hw7, Hw8, Hw9, Hw10, Hw11, Hw12, Hw13, Hw14, Hw15⟩,
    ⟨Ho0, Ho1, Ho2, Ho3, Ho4, Ho5, Ho6, Ho7, Ho8, Ho9, Ho10, Ho11, Ho12, Ho13, Ho14, Ho15⟩, ⟨Hs0, Hs1, Hs2, Hs3⟩,
    ⟨Hc0, Hc1, Hc2, Hc3, Hc4, Hc5, Hc6, Hc7⟩, HO⟩
  sl_unfold [cc0_body]
  sl_exec
  sl_step
  ihave Ho0 := (out_written d i 0#32 _ g w (ring_run.sl.dma0_2 d i w s) (slot_read d i 0 _ _ _ _)) $$ Ho0
  ihave Ho1 := (out_written d i 256#32 _ g w (ring_run.sl.dma0_4 d i w s) (slot_read d i 256 _ _ _ _)) $$ Ho1
  ihave Ho2 := (out_written d i 512#32 _ g w (ring_run.sl.dma0_6 d i w s) (slot_read d i 512 _ _ _ _)) $$ Ho2
  ihave Ho3 := (out_written d i 768#32 _ g w (ring_run.sl.dma0_8 d i w s) (slot_read d i 768 _ _ _ _)) $$ Ho3
  ihave Ho4 := (out_written d i 1024#32 _ g w (ring_run.sl.dma0_10 d i w s) (slot_read d i 0 _ _ _ _)) $$ Ho4
  ihave Ho5 := (out_written d i 1280#32 _ g w (ring_run.sl.dma0_12 d i w s) (slot_read d i 256 _ _ _ _)) $$ Ho5
  ihave Ho6 := (out_written d i 1536#32 _ g w (ring_run.sl.dma0_14 d i w s) (slot_read d i 512 _ _ _ _)) $$ Ho6
  ihave Ho7 := (out_written d i 1792#32 _ g w (ring_run.sl.dma0_16 d i w s) (slot_read d i 768 _ _ _ _)) $$ Ho7
  ihave Ho8 := (out_written d i 2048#32 _ g w (ring_run.sl.dma0_18 d i w s) (slot_read d i 0 _ _ _ _)) $$ Ho8
  ihave Ho9 := (out_written d i 2304#32 _ g w (ring_run.sl.dma0_20 d i w s) (slot_read d i 256 _ _ _ _)) $$ Ho9
  ihave Ho10 := (out_written d i 2560#32 _ g w (ring_run.sl.dma0_22 d i w s) (slot_read d i 512 _ _ _ _)) $$ Ho10
  ihave Ho11 := (out_written d i 2816#32 _ g w (ring_run.sl.dma0_24 d i w s) (slot_read d i 768 _ _ _ _)) $$ Ho11
  ihave Ho12 := (out_written d i 3072#32 _ g w (ring_run.sl.dma0_26 d i w s) (slot_read d i 0 _ _ _ _)) $$ Ho12
  ihave Ho13 := (out_written d i 3328#32 _ g w (ring_run.sl.dma0_28 d i w s) (slot_read d i 256 _ _ _ _)) $$ Ho13
  ihave Ho14 := (out_written d i 3584#32 _ g w (ring_run.sl.dma0_30 d i w s) (slot_read d i 512 _ _ _ _)) $$ Ho14
  ihave Ho15 := (out_written d i 3840#32 _ g w (ring_run.sl.dma0_31 d i w s) (slot_read d i 768 _ _ _ _)) $$ Ho15
  sl_close

end Cert.Proof.Copy

end
-- ==== Proof.Chunks.lean ====
/-
  The arrays in chunks.

  The table and the result are the disjoint union of the 2 × 16 chunks of 256 rows the two scalar subcores copy; a
  SparseCore's shared memory is the disjoint union of its four slots of 256 rows. So an array held whole is held chunk by
  chunk, in the terms in which the body slices it, and the other way round.
-/
module

public import proofs.«01_k».proof.Proof.Body

@[expose] public section

noncomputable section

namespace Cert.Proof.Copy

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The 32 chunks of the table and of the result -/

/-- An element lies in a chunk when its row does. -/
theorem mem_chunk (i : grid0.Coords) (k : Fin 16) (j : S8192x1024.Idx) :
    j ∈ chunk i k ↔ 4096 * (i 0).val + 256 * k.val ≤ (j 0).val ∧ (j 0).val < 4096 * (i 0).val + 256 * k.val + 256 := by
  unfold chunk
  rw [Rect.mem_set_unit, k0_off1_eq i k]
  constructor
  · intro h; exact h 0
  · intro h a
    match a with
    | 0 => exact h
    | 1 => exact ⟨Nat.zero_le _, by simpa using (j 1).isLt⟩

/-- Two chunks of one SparseCore do not meet. -/
theorem chunk_disjoint (i : grid0.Coords) (k k' : Fin 16) (hk : k ≠ k') : Disjoint (chunk i k) (chunk i k') := by
  rw [Finset.disjoint_left]
  intro j hj hj'
  rw [mem_chunk] at hj hj'
  have : k.val ≠ k'.val := fun e => hk (Fin.ext e)
  omega

/-- The rows of one SparseCore. -/
def rows (c : Fin 2) : Finset S8192x1024.Idx := Finset.univ.biUnion (chunk (coords c))

/-- An element lies in SparseCore `c`'s half when its row does. -/
theorem mem_rows (c : Fin 2) (j : S8192x1024.Idx) : j ∈ rows c ↔ (j 0).val / 4096 = c.val := by
  have hc : (coords c 0).val = c.val := rfl
  simp only [rows, Finset.mem_biUnion, Finset.mem_univ, true_and, mem_chunk, hc]
  constructor
  · rintro ⟨k, h⟩; have := k.isLt; omega
  · intro h; exact ⟨⟨(j 0).val % 4096 / 256, by omega⟩, by simp only; omega⟩

/-- The two halves do not meet, -/
theorem rows_disjoint (c c' : Fin 2) (hc : c ≠ c') : Disjoint (rows c) (rows c') := by
  rw [Finset.disjoint_left]
  intro j hj hj'
  rw [mem_rows] at hj hj'
  exact hc (Fin.ext (hj.symm.trans hj'))

/-- and together are the whole array. -/
theorem rows_cover : Finset.univ.biUnion rows = Finset.univ := by
  ext j
  have hj : (j 0).val < 8192 := (j 0).isLt
  simp only [Finset.mem_biUnion, Finset.mem_univ, true_and, mem_rows, iff_true]
  exact ⟨⟨(j 0).val / 4096, by omega⟩, rfl⟩

/-- The table held whole is each SparseCore's half held chunk by chunk, -/
theorem w_split (d : Dev nD) (f : Buf (Elt F) (wLoc d)) :
    (wLoc d ↦{fullShare} f : sProp 𝕄)
      = bigSep Finset.univ fun c : Fin 2 => bigSep Finset.univ fun k : Fin 16 => wLoc d ↦[chunk (coords c) k]{fullShare} f := by
  rw [show (Finset.univ : Finset (Idx (wLoc d))) = Finset.univ.biUnion rows from rows_cover.symm,
    pointsTo_biUnion (ℓ := wLoc d) Finset.univ rows fun c _ c' _ h => rows_disjoint c c' h]
  exact bigSep_congr fun c _ => pointsTo_biUnion (ℓ := wLoc d) Finset.univ (chunk (coords c)) fun k _ k' _ h => chunk_disjoint _ k k' h

/-- and so is the result. -/
theorem o_split (d : Dev nD) (f : Buf (Elt F) (oLoc d)) :
    (oLoc d ↦{fullShare} f : sProp 𝕄)
      = bigSep Finset.univ fun c : Fin 2 => bigSep Finset.univ fun k : Fin 16 => oLoc d ↦[chunk (coords c) k]{fullShare} f := by
  rw [show (Finset.univ : Finset (Idx (oLoc d))) = Finset.univ.biUnion rows from rows_cover.symm,
    pointsTo_biUnion (ℓ := oLoc d) Finset.univ rows fun c _ c' _ h => rows_disjoint c c' h]
  exact bigSep_congr fun c _ => pointsTo_biUnion (ℓ := oLoc d) Finset.univ (chunk (coords c)) fun k _ k' _ h => chunk_disjoint _ k k' h

/-! ## One SparseCore's chunks as the body slices them -/

/-- Sixteen assertions, one by one. -/
theorem bigSep_sixteen (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [show (Finset.univ : Finset (Fin 16)) = {0, 1, 2, 3, 4, 5, 6, 7, 8, 9, 10, 11, 12, 13, 14, 15} by decide]
  iterate 15 rw [SparseCore.bigSep_insert' (by decide)]
  rw [bigSep_singleton]

variable (d : Dev nD) (i : grid0.Coords)

/-- A chunk of the table as the body slices it is the rectangle's elements of the table; -/
theorem wP_eq (r : BitVec 32) (h : ∀ a, k0_off1 i r a + S256x1024.size a ≤ S8192x1024.size a) (f : Buf (Elt F) (wLoc d)) :
    wP d i r h f = (wLoc d ↦[(Rect.unit (s := S8192x1024) (k0_off1 i r) S256x1024.size h).set]{fullShare} f : sProp 𝕄) := by
  unfold wP
  rw [show (wM i r h).view.set = (Rect.unit (s := S8192x1024) (k0_off1 i r) S256x1024.size h).set from View.set_slice_whole _ _]
/-- of the result likewise; -/
theorem oP_eq (r : BitVec 32) (h : ∀ a, k0_off1 i r a + S256x1024.size a ≤ S8192x1024.size a) (f : Buf (Elt F) (oLoc d)) :
    oP d i r h f = (oLoc d ↦[(Rect.unit (s := S8192x1024) (k0_off1 i r) S256x1024.size h).set]{fullShare} f : sProp 𝕄) := by
  unfold oP
  rw [show (oM i r h).view.set = (Rect.unit (s := S8192x1024) (k0_off1 i r) S256x1024.size h).set from View.set_slice_whole _ _]
/-- and a slot of the shared memory. -/
theorem sP_eq (r : Nat) (h : ∀ a, (![r, 0] : Fin 2 → Nat) a + S256x1024.size a ≤ S1024x1024.size a) (f : Buf (Elt F) (sLoc d ((i 0).castLE hcore0))) :
    sP d i r h f = (sLoc d ((i 0).castLE hcore0) ↦[(Rect.unit (s := S1024x1024) ![r, 0] S256x1024.size h).set]{fullShare} f : sProp 𝕄) := by
  unfold sP
  rw [show (sM r h).view.set = (Rect.unit (s := S1024x1024) ![r, 0] S256x1024.size h).set from View.set_slice_whole _ _]

/-- The sixteen chunks of the table, as the body slices them, -/
theorem wAll_eq (f : Buf (Elt F) (wLoc d)) :
    wAll d i f = (bigSep Finset.univ fun k : Fin 16 => wLoc d ↦[chunk i k]{fullShare} f : sProp 𝕄) := by
  rw [bigSep_sixteen]
  unfold wAll
  simp only [wP_eq]
  rfl
/-- and of the result. -/
theorem oAll_eq (f : Buf (Elt F) (oLoc d)) :
    oAll d i f = (bigSep Finset.univ fun k : Fin 16 => oLoc d ↦[chunk i k]{fullShare} f : sProp 𝕄) := by
  rw [bigSep_sixteen]
  unfold oAll
  simp only [oP_eq]
  rfl

/-! ## The four slots of the shared memory -/

/-- The slots do not meet, -/
theorem slot_disjoint (b b' : Fin 4) (hb : b ≠ b') : Disjoint (slot b) (slot b') :=
  Ring.lead_disjoint (s := S1024x1024) (0 : Fin 2) 256 (fun b : Fin 4 => (![256 * b.val, 0] : Fin 2 → Nat)) S256x1024.size slot_inb
    (fun _ => rfl) rfl b b' hb

/-- and together are the whole of it. -/
theorem slot_cover : Finset.univ.biUnion slot = Finset.univ :=
  Ring.lead_cover (s := S1024x1024) (0 : Fin 2) 256 (fun b : Fin 4 => (![256 * b.val, 0] : Fin 2 → Nat)) S256x1024.size slot_inb
    (fun _ => rfl) (fun b a ha => by fin_cases a <;> first | exact absurd rfl ha | rfl) rfl
    (fun a ha => by fin_cases a <;> first | exact absurd rfl ha | rfl) rfl

/-- Four assertions, one by one. -/
theorem bigSep_four (Φ : Fin 4 → sProp 𝕄) : bigSep Finset.univ Φ = iprop(Φ 0 ∗ Φ 1 ∗ Φ 2 ∗ Φ 3) := by
  rw [show (Finset.univ : Finset (Fin 4)) = {0, 1, 2, 3} by decide]
  iterate 3 rw [SparseCore.bigSep_insert' (by decide)]
  rw [bigSep_singleton]

/-- The shared memory held whole is its four slots; -/
theorem slots_split (f : Buf (Elt F) (sLoc d ((i 0).castLE hcore0))) :
    (sLoc d ((i 0).castLE hcore0) ↦{fullShare} f : sProp 𝕄)
      = iprop(sP d i 0 inb_S1024x1024_S256x1024_0_0 f ∗ sP d i 256 inb_S1024x1024_S256x1024_256_0 f
          ∗ sP d i 512 inb_S1024x1024_S256x1024_512_0 f ∗ sP d i 768 inb_S1024x1024_S256x1024_768_0 f) := by
  rw [show (Finset.univ : Finset (Idx (sLoc d ((i 0).castLE hcore0)))) = Finset.univ.biUnion slot from slot_cover.symm,
    pointsTo_biUnion (ℓ := sLoc d ((i 0).castLE hcore0)) Finset.univ slot fun b _ b' _ h => slot_disjoint b b' h, bigSep_four]
  simp only [sP_eq]
  rfl

/-- the four slots, each at whatever it holds, are the shared memory at some contents. -/
theorem slots_join :
    (iprop((∃ f, sP d i 0 inb_S1024x1024_S256x1024_0_0 f) ∗ (∃ f, sP d i 256 inb_S1024x1024_S256x1024_256_0 f)
        ∗ (∃ f, sP d i 512 inb_S1024x1024_S256x1024_512_0 f) ∗ (∃ f, sP d i 768 inb_S1024x1024_S256x1024_768_0 f)) : sProp 𝕄)
      ⊢ iprop(∃ f, sLoc d ((i 0).castLE hcore0) ↦{fullShare} f) := by
  iintro ⟨⟨%f0, H0⟩, H1, H2, H3⟩
  iapply (Ring.pointsTo_blocks_join_exists (ℓ := sLoc d ((i 0).castLE hcore0)) (q := fullShare) slot
    (fun b b' h => slot_disjoint b b' h) slot_cover f0)
  rw [bigSep_four]
  simp only [sP_eq]
  isplitl [H0]; · iexists f0; iexact H0
  isplitl [H1]; · iexact H1
  isplitl [H2]; · iexact H2
  iexact H3

end Cert.Proof.Copy

end
-- ==== Proof.Launch.lean ====
/-
  The program's run.

  Each scalar subcore is handed its half of the table and of the result at the call and hands both back, its half of the
  result now holding the table's rows. With the body's run (Body.lean) and the chunks (Chunks.lean) the launch theorem
  gives every run of the program: it ends with every semaphore at zero, both arguments as they were, and the result equal
  to the table.
-/
module

public import proofs.«01_k».proof.Proof.Chunks

@[expose] public section

noncomputable section

namespace Cert.Proof.Copy

open Cert.KernelIdeal Cert.KernelIdeal.Gen

open Idealize.ShloMosaic
open Idealize.ShloMosaic.SparseCore (S V T)
open Idealize.ShloMosaic.SparseCore.Cfg (HIx Pay ownSems0 ownBufs ownCells mem_ownCells ownRefs mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## What a SparseCore is handed and hands back -/

/-- SparseCore `c`'s sixteen chunks of the table at `f`. -/
abbrev wHalf (d : Dev nD) (c : Fin 2) (f : Buf (Elt F) (wLoc d)) : sProp 𝕄 :=
  bigSep Finset.univ fun k : Fin 16 => wLoc d ↦[chunk (coords c) k]{fullShare} f
/-- SparseCore `c`'s sixteen chunks of the result at `f`. -/
abbrev oHalf (d : Dev nD) (c : Fin 2) (f : Buf (Elt F) (oLoc d)) : sProp 𝕄 :=
  bigSep Finset.univ fun k : Fin 16 => oLoc d ↦[chunk (coords c) k]{fullShare} f

/-- The SparseCore of the one call by its number. -/
abbrev core2 (q : Fin 1) (c : Fin ((K (F := F)).nCore q)) : Fin 2 := match q, c with | 0, c => c

/-- The call's payloads: the halves of the table and of the result, out as they are at the launch, and back with the
    table's rows in the result. -/
def P : (K (F := F)).Pay (nD := nD) (Val := Elt F) (Name := ℕ) (U := UU) where
  st := fun q d c => iprop(wHalf d (core2 q c) (m (wLoc d)) ∗ oHalf d (core2 q c) (m (oLoc d)))
  dn := fun q d c => iprop(wHalf d (core2 q c) (m (wLoc d)) ∗ oHalf d (core2 q c) (m (wLoc d)))
  go := fun _ _ _ _ => iprop(emp)
  td := fun _ _ _ _ => iprop(emp)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## The body in the launch theorem's terms -/

section Sequencer

variable (d : Dev nD)

/-- The eight DMA semaphores of the body: cell `k` of a scalar subcore's pool. -/
abbrev dcell (c : Fin τ.nSC) (k : Fin 8) : GSem nD τ sig := (S d c, .dma (csem k.val k.isLt))

/-- It is one of the scalar subcore's own semaphores. -/
theorem dcell_mem (c : Fin τ.nSC) (k : Fin 8) : dcell d c k ∈ ownCells (S d c) :=
  mem_ownCells.mpr ⟨rfl, (show ∀ s : DmaSem sig, (SemLoc.dma s : SemLoc sig).isScoped .scScalar = true by decide) _⟩

/-- Of a scalar subcore's own semaphores, all at zero, those eight and the others. -/
theorem ownSems0_split (i : grid0.Coords) :
    (ownSems0 (seq d i) : sProp 𝕄)
      = iprop(cells0 d i ∗ bigSep ((ownCells (seq d i)) \ Finset.univ.image (dcell d ((i 0).castLE hcore0))) fun g => semVal g 0) := by
  unfold SparseCore.Cfg.ownSems0
  rw [SparseCore.bigSep_sdiff_split' (t := Finset.univ.image (dcell d ((i 0).castLE hcore0))) (Finset.image_subset_iff.mpr fun k _ => dcell_mem d _ k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 8)) = {0, 1, 2, 3, 4, 5, 6, 7} by decide]
  iterate 7 rw [SparseCore.bigSep_insert' (by decide)]
  rw [bigSep_singleton]
  rfl

/-- Of its own buffers, the shared memory and the others. -/
theorem ownBufs_split (i : grid0.Coords) :
    (ownBufs (seq d i) : sProp 𝕄)
      = iprop((∃ f, sLoc d ((i 0).castLE hcore0) ↦{fullShare} f)
          ∗ bigSep ((ownRefs (τ := τ) (.scScalar ((i 0).castLE hcore0))).erase ((Proc.scScalar ((i 0).castLE hcore0)).devRef cc0_scratch0))
              fun b => iprop(∃ f, ((d, b) : Loc nD τ sig) ↦{fullShare} f)) := by
  unfold SparseCore.Cfg.ownBufs
  exact SparseCore.bigSep_erase' ((mem_ownRefs (p := Proc.scScalar ((i 0).castLE hcore0)) (b := (Proc.scScalar ((i 0).castLE hcore0)).devRef cc0_scratch0)).mpr rfl)

variable [FloatOps F]

/-- The body on a scalar subcore, from what the call hands it to what it hands back: its memory and its semaphores opened
    around the body's run and closed after it. -/
theorem seq_body (c : Fin 2) (O : CellTallies nD τ sig (HIx 1)) (W : Waits sig (HIx 1)) (hO : ∀ g, O g none = 0) :
    iprop(levAts (K (F := F)).L (K (F := F)).lev ∗ emp ∗ (wHalf d c (m (wLoc d)) ∗ oHalf d c (m (oLoc d)))
        ∗ scopedBufs (seq d (coords c)) ∗ scopedSems0 (seq d (coords c)) ∗ owes (seq d (coords c)) O W)
      ⊢ wp frame (wpE (defs₀ (F := F)) 𝒱₀ (seq d (coords c)) none) Set.univ
          (cc0_body (coords c) (Memref.whole main_arg1_scs) (Memref.isWhole_whole _) (Memref.whole main_v0_scs) (Memref.isWhole_whole _)
            (Memref.whole cc0_scratch0) (Memref.isWhole_whole _) cc0_scratch1 cc0_scratch2)
          fun _ => iprop((wHalf d c (m (wLoc d)) ∗ oHalf d c (m (wLoc d))) ∗ scopedBufs (seq d (coords c)) ∗ scopedSems0 (seq d (coords c))
            ∗ ∃ W', ⌜∀ p ∈ W', p ∈ W ∨ p.2 = none ∨ p.2 = some (0 : Fin 1)⌝ ∗ owes (seq d (coords c)) O W') := by
  rw [(K (F := F)).scopedBufs_S facts d _, SparseCore.Cfg.scopedSems0_S (Val := Elt F) d _, ownSems0_split, ownBufs_split]
  iintro ⟨#Hlv, -, ⟨Hw, Ho⟩, ⟨⟨⟨%s, Hs⟩, Hbufs⟩, Htiles⟩, ⟨⟨HC, Hsems⟩, HtileSems⟩, HO⟩
  ihave Hmw := ((K (F := F)).mayWaits_none (thr := seq d (coords c)) hO) $$ Hlv
  ihave Hw' := (Entails.of_eq (wAll_eq (F := F) d (coords c) _).symm) $$ Hw
  ihave Ho' := (Entails.of_eq (oAll_eq (F := F) d (coords c) _).symm) $$ Ho
  ihave Hs' := (Entails.of_eq (slots_split (F := F) d (coords c) _)) $$ Hs
  iapply (wp_wand_r Idealize.ShloMosaic.frame (wpE (defs₀ (F := F)) 𝒱₀ (seq d (coords c)) none) Set.univ)
  isplitl [Hw' Ho' Hs' HC HO]
  · iapply (ring_run d (coords c) O W (m (wLoc d)) (m (oLoc d)) s)
    isplitr; · iexact Hmw
    isplitl [Hw']; · iexact Hw'
    isplitl [Ho']; · iexact Ho'
    isplitl [Hs']; · iexact Hs'
    isplitl [HC]; · iexact HC
    iexact HO
  iintro %_ ⟨Hw', Ho', Hs', HC, %W', HO⟩
  isplitl [Hw' Ho']
  · isplitl [Hw']
    · iapply (Entails.of_eq (wAll_eq (F := F) d (coords c) _)); iexact Hw'
    · iapply (Entails.of_eq (oAll_eq (F := F) d (coords c) _)); iexact Ho'
  isplitl [Hs' Hbufs Htiles]
  · isplitl [Hs' Hbufs]
    · isplitl [Hs']; · iapply (slots_join (F := F) d (coords c)); iexact Hs'
      iexact Hbufs
    iexact Htiles
  isplitl [HC Hsems HtileSems]
  · isplitl [HC Hsems]
    · isplitl [HC]; · iexact HC
      iexact Hsems
    iexact HtileSems
  iexists W'; isplitr
  · ipureintro; intro p _
    rcases p.2 with _ | q
    · exact .inr (.inl rfl)
    · exact .inr (.inr (congrArg some (Subsingleton.elim q 0)))
  · iexact HO

end Sequencer

variable [FloatOps F]

/-- The scalar subcore's program is the body at its own coordinates. -/
theorem defs₀_scalar (c : Fin τ.nSC) :
    defs₀ (F := F) (.scScalar c) 0 ()
      = SparseCore.onCore hcore0 (fun c => cc0_body (coords c) (Memref.whole main_arg1_scs) (Memref.isWhole_whole _) (Memref.whole main_v0_scs)
          (Memref.isWhole_whole _) (Memref.whole cc0_scratch0) (Memref.isWhole_whole _) cc0_scratch1 cc0_scratch2) ⟨⟩ c := rfl

/-- The launch theorem's obligation at the one call. -/
theorem scalarObl : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  exact seq_body m d c O W hO

/-! ## The ghost state at the launch -/

/-- The ghost state at the start: the handshakes' rounds, and no transfer in flight. -/
def u₀ : UU := (initOf (K (F := F)).hsCells (K (F := F)).hsToks, 1)

/-- Nothing, any number of times, is nothing. -/
theorem bigSep_nothing {I : Type} (s : Finset I) : (bigSep s fun _ => iprop(emp)) = (iprop(emp) : sProp 𝕄) := bigSep_emp_const s

/-- The ghost state gives the handshakes' rounds; the kernel itself needs nothing from the launch. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_nothing]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_nothing]
  iempintro

/-! ## The program on the TensorCore -/

/-- The device's arrays: the argument not read, the table, the result. -/
theorem unscopedBufs_eq (d : Dev nD) (W : (b : Ref sig .tc) → Buf (Elt F) ((d.tc : Thread nD τ).loc b)) :
    (unscopedBufs d W : sProp 𝕄) = iprop((xLoc d ↦{fullShare} W main_arg0) ∗ (wLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- What the call takes for its two SparseCores is the table and the result whole, -/
theorem st_eq (d : Dev nD) :
    (bigSep Finset.univ fun c : Fin ((K (F := F)).nCore 0) => (P m).st 0 d c)
      = iprop((wLoc d ↦{fullShare} m (wLoc d)) ∗ oLoc d ↦{fullShare} m (oLoc d)) := by
  rw [w_split, o_split]
  exact bigSep_sep _ _ _
/-- and what it hands back is both whole, the result equal to the table. -/
theorem dn_eq (d : Dev nD) :
    (bigSep Finset.univ fun c : Fin ((K (F := F)).nCore 0) => (P m).dn 0 d c)
      = iprop((wLoc d ↦{fullShare} m (wLoc d)) ∗ oLoc d ↦{fullShare} (m (wLoc d) : Buf (Elt F) (oLoc d))) := by
  rw [w_split, o_split]
  exact bigSep_sep _ _ _

/-- What the program leaves: the arguments as they were, the result equal to the table. -/
abbrev FIN (d : Dev nD) : sProp 𝕄 :=
  iprop((xLoc d ↦{fullShare} m (xLoc d)) ∗ (wLoc d ↦{fullShare} m (wLoc d)) ∗ oLoc d ↦{fullShare} (m (wLoc d) : Buf (Elt F) (oLoc d)))

/-- The program on the TensorCore: the call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Hw, Ho⟩, Hts, -⟩, -⟩
  iapply ((K (F := F)).wp_run (D (F := F)) 𝒱 (EH := EH) (P := P m) κ d 0) $$ [Hst Hx Hw Ho Hb Hts]
  isplitr; · iexact Hctx
  isplitl [Hst]; · iexact Hst
  isplitl [Hw Ho]
  · rw [st_eq]
    isplitl [Hw] <;> iassumption
  iintro ⟨Hst, Hdn⟩
  ihave Hdn' := (Entails.of_eq (dn_eq m d)) $$ Hdn
  icases Hdn' with ⟨Hw, Ho⟩
  imodintro
  isplitl [Hst]; · iexact Hst
  isplitr [Hb Hts]
  · isplitl [Hx]; · iexact Hx
    isplitl [Hw] <;> iassumption
  isplitl [Hb] <;> iassumption

/-- The same of a memory: the arguments as they were, the result equal to the table. -/
def fq (d : Dev nD) (s' : Phys nD τ sig (Elt F)) : Prop :=
  s'.mem.mem (xLoc d) = m (xLoc d) ∧ s'.mem.mem (wLoc d) = m (wLoc d) ∧ s'.mem.mem (oLoc d) = m (wLoc d)

/-- What the program leaves, read off the memory. -/
theorem hfin (d : Dev nD) (s' : Phys nD τ sig (Elt F)) : iprop(FIN m d ∗ SI s') ⊢ (⌜fq m d s'⌝ : sProp 𝕄) := by
  iintro ⟨⟨Hx, Hw, Ho⟩, HSI⟩
  icombine HSI Hx gives %hx
  icombine HSI Hw gives %hw
  icombine HSI Ho gives %ho
  ipureintro
  exact ⟨funext fun j => hx j (Finset.mem_univ j), funext fun j => hw j (Finset.mem_univ j), funext fun j => ho j (Finset.mem_univ j)⟩

/-! ## Every run -/

/-- At the end: the arguments as they were, the result equal to the table, every semaphore at zero. -/
def QC : PUnit × MemSt nD τ sig (Elt F) → Prop := fun r =>
  (∀ d : Dev nD, r.2.mem (xLoc d) = m (xLoc d) ∧ r.2.mem (wLoc d) = m (wLoc d) ∧ r.2.mem (oLoc d) = m (wLoc d)) ∧ r.2.sem = fun _ => 0

/-- Every run of the program ends so. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q _ => match q with | 0 => scalarObl m)
    (fun q hq => match q with | 0 => nomatch hq)
    (fun q hq => match q with | 0 => nomatch hq)
    m ρ main (fun _ => iprop(emp)) (FIN m) (u₀ (F := F)) (sep_elim_left.trans (hu₀ m)) (hmain m ρ) (fq m) (hfin m) (QC m) (fun _ h hz => ⟨h, hz⟩)

end Cert.Proof.Copy

end
-- ==== Proof.Take.lean ====
/-
  The reference's value.

  `jnp.take(W, arange(8192), axis=0)` is written out as: the row numbers 0 … 8191, each one that is negative moved up by
  8192; a gather of the table's rows at those numbers; and a choice, row by row, between the gathered row and a fill value
  by whether the number lies in 0 … 8191. No number is negative and every one is in range, so the choice is always the
  gathered row, and row `p` of the result is row `p` of the table.

  The lemmas take the shapes' facts and the gather's dimension numbers as arguments, so that they serve both instances of
  the reference (over floats and over the ideal numbers).
-/
module

public import Idealize.ShloMosaic.Lib.Routing.Ops
public import Idealize.ShloMosaic.Lib.ReduceAll
public import Idealize.ShloMosaic.Lib.IdealHost
public import Idealize.ShloMosaic.Lib.StableHlo.Predicate

@[expose] public section

namespace Cert.Proof.Take

open Idealize.ShloMosaic Idealize.ShloMosaic.ValueIdx Idealize.ShloMosaic.Routing

/-- One entry per row of the table. -/
abbrev rowsShape : Shape := ⟨1, ![8192]⟩
/-- The row numbers as a column. -/
abbrev colShape : Shape := ⟨2, ![8192, 1]⟩
/-- The table, and the result. -/
abbrev tableShape : Shape := ⟨2, ![8192, 1024]⟩

/-- A row number, as a signed word, is not below zero. -/
theorem not_negative (p : Fin 8192) : IntOp.cmpi .slt (BitVec.ofNat 32 p.val) 0#32 ≠ 1#1 := fun e =>
  absurd ((StableHlo.Predicate.slt_ofNat_iff p.val 0 (by omega) (by omega)).1 e) (Nat.not_lt_zero _)

/-- A row number lies in 0 … 8191: both comparisons of the range test hold. -/
theorem in_range (p : Fin 8192) :
    IntOp.andi (IntOp.cmpi .sge (BitVec.ofNat 32 p.val) 0#32) (IntOp.cmpi .sle (BitVec.ofNat 32 p.val) 8191#32) = 1#1 := by
  have h0 : IntOp.cmpi .sge (BitVec.ofNat 32 p.val) 0#32 = 1#1 :=
    (StableHlo.Predicate.sle_ofNat_iff 0 p.val (by omega) (by omega)).2 (Nat.zero_le _)
  have h1 : IntOp.cmpi .sle (BitVec.ofNat 32 p.val) 8191#32 = 1#1 :=
    (StableHlo.Predicate.sle_ofNat_iff p.val 8191 (by omega) (by omega)).2 (by omega)
  rw [h0, h1]; rfl

/-- The column of row numbers holds `p` at row `p`: the negative ones are moved up, and none is negative. -/
theorem column_apply (hb : rowsShape.BroadcastsInDim colShape (![0] : Fin 1 → Fin 2)) (z : IVec rowsShape 32)
    (hz : ∀ i, z i = 0#32) (moved : IVec rowsShape 32) (p : Fin 8192) :
    broadcastInDim colShape ![0] hb (select (cmpi .slt (iotaInDim rowsShape 32 0) z) moved (iotaInDim rowsShape 32 0)) (ix2 p (0 : Fin 1))
      = BitVec.ofNat 32 p.val := by
  refine (bcCol hb _ p).trans ?_
  show Scalar.select (IntOp.cmpi .slt (BitVec.ofNat 32 p.val) (z (ix1 p))) (moved (ix1 p)) (BitVec.ofNat 32 p.val) = _
  rw [hz]
  exact if_neg (not_negative p)

/-- The range test, reduced along the column's unit axis, is true at every row. -/
theorem mask_one (col lo hi : IVec colShape 32) (hcol : ∀ p : Fin 8192, col (ix2 p (0 : Fin 1)) = BitVec.ofNat 32 p.val)
    (hlo : ∀ i, lo i = 0#32) (hhi : ∀ i, hi i = 8191#32) {u : Shape} (init : IVec u 1) (hinit : ∀ i, init i = 1#1)
    {axes : List (Fin 2)} (hr : colShape.ReducesTo axes rowsShape) (hu : 0 < u.numel) (j : rowsShape.Idx) :
    Host.reduce IntOp.andi (andi (cmpi .sge col lo) (cmpi .sle col hi)) init hr hu j = 1#1 := by
  refine Host.reduce_andi_one _ _ hr hu j (hinit _) fun i => ?_
  obtain ⟨p, rfl⟩ : ∃ p : Fin 8192, i = ix2 p (0 : Fin 1) :=
    ⟨i 0, (eq_ix2 i).trans (congrArg (ix2 (i 0)) (Subsingleton.elim (α := Fin 1) _ _))⟩
  show IntOp.andi (IntOp.cmpi .sge (col _) (lo _)) (IntOp.cmpi .sle (col _) (hi _)) = 1#1
  rw [hcol, hlo, hhi]
  exact in_range p

/-- The rows gathered at the numbers 0 … 8191, each kept because its number is in range, are the table. -/
theorem take_eq {α : Type} (d : GatherDims tableShape colShape tableShape) (hoff : d.offsetDims = [1])
    (hcoll : d.collapsedSliceDims = [0]) (hob : d.operandBatchingDims = []) (hsim : d.startIndexMap = [0]) (hivd : d.indexVectorDim = 1)
    (W fill : tableShape.Idx → α) (col : IVec colShape 32)
    (hcol : ∀ p : Fin 8192, col (ix2 p (0 : Fin 1)) = BitVec.ofNat 32 p.val)
    (hm : rowsShape.BroadcastsInDim tableShape (![0] : Fin 1 → Fin 2)) (mask : IVec rowsShape 1) (hmask : ∀ j, mask j = 1#1) :
    select (broadcastInDim tableShape ![0] hm mask) (Host.gather d W col) fill = W := by
  funext i
  obtain ⟨p, y, rfl⟩ : ∃ (p : Fin 8192) (y : Fin 1024), i = ix2 p y := ⟨i 0, i 1, eq_ix2 i⟩
  show Scalar.select (mask _) (Host.gather d W col (ix2 p y)) (fill _) = _
  rw [hmask]
  refine (if_pos rfl).trans ?_
  exact gather_row d hoff hcoll hob hsim hivd W col p y p (hcol p) (by omega)

end Cert.Proof.Take

end
-- ==== Proof.lean ====
/-
  The certificate's claims.

  The kernel copies an 8192 × 1024 table through the shared memory of two SparseCores, each scalar subcore moving its half
  of the rows. Its run (`Copy.run_main`) is over any float values: both frames, the algebraic claim and the bit-exact claim
  read it at the values they speak of. The reference takes the table's rows at 0 … 8191 (Take.lean), so the value every
  claim shares is the table itself.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Reference
public import proofs.«01_k».proof.Proof.Gen.Reference.Run
public import proofs.«01_k».proof.Proof.Launch
public import proofs.«01_k».proof.Proof.Take

@[expose] public section

noncomputable section

namespace Cert.Proof

open Idealize.ShloMosaic Idealize.SL.Sem

/-- The run of the reference written for the ideal numbers: its result is the table, its arguments are as they were. -/
theorem referenceIdeal_run {F : FTy → Type} [FloatOps F] (m : (ℓ : Loc Cert.ReferenceIdeal.nD Cert.ReferenceIdeal.τ Cert.ReferenceIdeal.sig) → Buf (Elt F) ℓ) (ρ : Dev Cert.ReferenceIdeal.nD → PrngReg) :
    θ_run Cert.ReferenceIdeal.defs (onTc (τ := Cert.ReferenceIdeal.τ) (Cert.ReferenceIdeal.main (F := F))) ⟨m, fun _ => 0, ρ⟩ fun r => ∀ c : Dev Cert.ReferenceIdeal.nD,
      r.2.mem ((c.tc : Thread Cert.ReferenceIdeal.nD Cert.ReferenceIdeal.τ).loc Cert.ReferenceIdeal.main_v1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1) :=
  (θ_run Cert.ReferenceIdeal.defs _ _).mono (fun _ h c => ⟨(h c).1.trans
      (Take.take_eq Cert.ReferenceIdeal.gather_S8192x1024_S8192x1_S8192x1024_1_0_n_n_0_1_11024 rfl rfl rfl rfl rfl _ _ _
        (Take.column_apply _ _ (fun _ => rfl) _) _ _
        (Take.mask_one _ _ _ (Take.column_apply _ _ (fun _ => rfl) _) (fun _ => rfl) (fun _ => rfl) _ (fun _ => rfl) _ _)),
      (h c).2⟩)
    (Cert.ReferenceIdeal.Value.run m ρ)

/-- The run of the reference written for floats: its result is the table, its arguments are as they were. -/
theorem reference_run {F : FTy → Type} [FloatOps F] (m : (ℓ : Loc Cert.Reference.nD Cert.Reference.τ Cert.Reference.sig) → Buf (Elt F) ℓ) (ρ : Dev Cert.Reference.nD → PrngReg) :
    θ_run Cert.Reference.defs (onTc (τ := Cert.Reference.τ) (Cert.Reference.main (F := F))) ⟨m, fun _ => 0, ρ⟩ fun r => ∀ c : Dev Cert.Reference.nD,
      r.2.mem ((c.tc : Thread Cert.Reference.nD Cert.Reference.τ).loc Cert.Reference.main_v1) = m ((c.tc : Thread Cert.Reference.nD Cert.Reference.τ).loc Cert.Reference.main_arg1)
      ∧ r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1) :=
  (θ_run Cert.Reference.defs _ _).mono (fun _ h c => ⟨(h c).1.trans
      (Take.take_eq Cert.Reference.gather_S8192x1024_S8192x1_S8192x1024_1_0_n_n_0_1_11024 rfl rfl rfl rfl rfl _ _ _
        (Take.column_apply _ _ (fun _ => rfl) _) _ _
        (Take.mask_one _ _ _ (Take.column_apply _ _ (fun _ => rfl) _) (fun _ => rfl) (fun _ => rfl) _ (fun _ => rfl) _ _)),
      (h c).2⟩)
    (Cert.Reference.Value.run m ρ)

/-- Every run of the kernel over floats ends, its arguments as they were and every semaphore at zero. -/
theorem frame_kernel : Cert.quiescent_Kernel := fun m ρ _ =>
  (θ_run Cert.KernelIdeal.defs _ _).mono (fun _ h => ⟨fun c => ⟨(h.1 c).1, (h.1 c).2.1⟩, h.2⟩) (Copy.run_main (F := Bits) m ρ)

/-- Every run of the kernel over the ideal numbers ends, its arguments as they were and every semaphore at zero. -/
theorem frame_kernelIdeal : Cert.quiescent_KernelIdeal := fun m ρ _ =>
  (θ_run Cert.KernelIdeal.defs _ _).mono (fun _ h => ⟨fun c => ⟨(h.1 c).1, (h.1 c).2.1⟩, h.2⟩) (Copy.run_main (F := Ideal) m ρ)

/-- Every run of the reference over the ideal numbers ends, its arguments as they were and every semaphore at zero. -/
theorem frame_referenceIdeal : Cert.quiescent_ReferenceIdeal := fun m ρ _ =>
  (θ_run Cert.ReferenceIdeal.defs _ _).mono (fun r h => ⟨fun c => (h c).2, sem_eq_zero_of_no_sems (by decide) r.2⟩) (referenceIdeal_run (F := Ideal) m ρ)

/-- Every run of the reference over floats ends, its arguments as they were and every semaphore at zero. -/
theorem frame_reference : Cert.quiescent_Reference := fun m ρ _ =>
  (θ_run Cert.Reference.defs _ _).mono (fun r h => ⟨fun c => (h c).2, sem_eq_zero_of_no_sems (by decide) r.2⟩) (reference_run (F := Bits) m ρ)

/-- Over the ideal numbers the kernel and the reference both end with the table in their result. -/
theorem algebraic : Cert.algebraic_KernelIdeal_ReferenceIdeal := fun m ρ m' ρ' _ hagree =>
  ⟨fun c => m (Copy.wLoc c),
    (θ_run Cert.KernelIdeal.defs _ _).mono (fun _ h c => ⟨(h.1 c).2.2, (h.1 c).1, (h.1 c).2.1⟩) (Copy.run_main (F := Ideal) m ρ),
    (θ_run Cert.ReferenceIdeal.defs _ _).mono (fun _ h c => ⟨(h c).1.trans (hagree c).2, (h c).2⟩) (referenceIdeal_run (F := Ideal) m' ρ')⟩

/-- Over floats the kernel and the reference both end with the table in their result, bit for bit. -/
theorem bitexact : Cert.bitexact_Kernel_Reference := fun m ρ m' ρ' _ hagree =>
  ⟨fun c => m (Copy.wLoc c),
    (θ_run Cert.KernelIdeal.defs _ _).mono (fun _ h c => ⟨(h.1 c).2.2, (h.1 c).1, (h.1 c).2.1⟩) (Copy.run_main (F := Bits) m ρ),
    (θ_run Cert.Reference.defs _ _).mono (fun _ h c => ⟨(h c).1.trans (hagree c).2, (h c).2⟩) (reference_run (F := Bits) m' ρ')⟩

/-- All the claims. -/
theorem claim : Cert.Claim :=
  ⟨Cert.Kernel.Gen.facts, Cert.KernelIdeal.Gen.facts, Cert.ReferenceIdeal.Gen.facts, Cert.Reference.Gen.facts,
    frame_kernel, frame_kernelIdeal, frame_referenceIdeal, frame_reference, trivial, algebraic, bitexact⟩

end Cert.Proof

end
